-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x7168 : Shape := ⟨3, ![1, 2048, 7168]⟩
abbrev S1x2048x2560 : Shape := ⟨3, ![1, 2048, 2560]⟩
abbrev S7168x2560 : Shape := ⟨2, ![7168, 2560]⟩
abbrev S1 : Shape := ⟨1, ![1]⟩
abbrev S2048x7168 : Shape := ⟨2, ![2048, 7168]⟩
abbrev S2048x2560 : Shape := ⟨2, ![2048, 2560]⟩
abbrev S1x2048 : Shape := ⟨2, ![1, 2048]⟩
abbrev S2048x256 : Shape := ⟨2, ![2048, 256]⟩
abbrev S256x2560 : Shape := ⟨2, ![256, 2560]⟩
abbrev S2048x128 : Shape := ⟨2, ![2048, 128]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S2048x1 : Shape := ⟨2, ![2048, 1]⟩

abbrev nBuf : Space → Nat
  | .hbm => 10
  | .vmem => 13
  | .smem => 1
  | _ => 0

abbrev bufTy : (tb : Table) → Fin (tcTables nBuf tb) → BufTy
  | .hbm, ⟨0, _⟩ => ⟨S1x2048x7168, .bf16⟩
  | .hbm, ⟨1, _⟩ => ⟨S1x2048x2560, .bf16⟩
  | .hbm, ⟨2, _⟩ => ⟨S7168x2560, .i8⟩
  | .hbm, ⟨3, _⟩ => ⟨S1, .f32⟩
  | .hbm, ⟨4, _⟩ => ⟨S2048x7168, .bf16⟩
  | .hbm, ⟨5, _⟩ => ⟨S2048x2560, .bf16⟩
  | .hbm, ⟨6, _⟩ => ⟨S2048x7168, .bf16⟩
  | .hbm, ⟨7, _⟩ => ⟨S7168x2560, .f32⟩
  | .hbm, ⟨8, _⟩ => ⟨S2048x2560, .i8⟩
  | .hbm, ⟨9, _⟩ => ⟨S1x2048, .f32⟩
  | .local _ .vmem, ⟨0, _⟩ => ⟨S2048x256, .bf16⟩
  | .local _ .vmem, ⟨1, _⟩ => ⟨S2048x256, .bf16⟩
  | .local _ .vmem, ⟨2, _⟩ => ⟨S2048x2560, .bf16⟩
  | .local _ .vmem, ⟨3, _⟩ => ⟨S256x2560, .i8⟩
  | .local _ .vmem, ⟨4, _⟩ => ⟨S256x2560, .i8⟩
  | .local _ .vmem, ⟨5, _⟩ => ⟨S2048x256, .bf16⟩
  | .local _ .vmem, ⟨6, _⟩ => ⟨S2048x256, .bf16⟩
  | .local _ .vmem, ⟨7, _⟩ => ⟨S256x2560, .f32⟩
  | .local _ .vmem, ⟨8, _⟩ => ⟨S256x2560, .f32⟩
  | .local _ .vmem, ⟨9, _⟩ => ⟨S2048x2560, .i8⟩
  | .local _ .vmem, ⟨10, _⟩ => ⟨S1x2048, .f32⟩
  | .local _ .vmem, ⟨11, _⟩ => ⟨S2048x2560, .bf16⟩
  | .local _ .vmem, ⟨12, _⟩ => ⟨S2048x128, .f32⟩
  | .local _ .smem, ⟨0, _⟩ => ⟨S1, .f32⟩
  | _, _ => ⟨S1x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x2048x7168 : Shape := ⟨3, ![1, 2048, 7168]⟩
abbrev S1x2048x2560 : Shape := ⟨3, ![1, 2048, 2560]⟩
abbrev S7168x2560 : Shape := ⟨2, ![7168, 2560]⟩
abbrev S1 : Shape := ⟨1, ![1]⟩
abbrev S2048x7168 : Shape := ⟨2, ![2048, 7168]⟩
abbrev S2048x2560 : Shape := ⟨2, ![2048, 2560]⟩
abbrev S1x2048 : Shape := ⟨2, ![1, 2048]⟩
abbrev S2048 : Shape := ⟨1, ![2048]⟩
abbrev S2048x1 : Shape := ⟨2, ![2048, 1]⟩

abbrev nBuf : Space → Nat
  | .hbm => 8
  | .vmem => 7
  | .smem => 1
  | _ => 0

abbrev bufTy : (tb : Table) → Fin (tcTables nBuf tb) → BufTy
  | .hbm, ⟨0, _⟩ => ⟨S1x2048x7168, .bf16⟩
  | .hbm, ⟨1, _⟩ => ⟨S1x2048x2560, .bf16⟩
  | .hbm, ⟨2, _⟩ => ⟨S7168x2560, .i8⟩
  | .hbm, ⟨3, _⟩ => ⟨S1, .f32⟩
  | .hbm, ⟨4, _⟩ => ⟨S2048x7168, .bf16⟩
  | .hbm, ⟨5, _⟩ => ⟨S7168x2560, .f32⟩
  | .hbm, ⟨6, _⟩ => ⟨S2048x2560, .i8⟩
  | .hbm, ⟨7, _⟩ => ⟨S1x2048, .f32⟩
  | .local _ .vmem, ⟨0, _⟩ => ⟨S1x2048x7168, .bf16⟩
  | .local _ .vmem, ⟨1, _⟩ => ⟨S1x2048x2560, .bf16⟩
  | .local _ .vmem, ⟨2, _⟩ => ⟨S7168x2560, .i8⟩
  | .local _ .vmem, ⟨3, _⟩ => ⟨S2048x7168, .bf16⟩
  | .local _ .vmem, ⟨4, _⟩ => ⟨S7168x2560, .f32⟩
  | .local _ .vmem, ⟨5, _⟩ => ⟨S2048x2560, .i8⟩
  | .local _ .vmem, ⟨6, _⟩ => ⟨S1x2048, .f32⟩
  | .local _ .smem, ⟨0, _⟩ => ⟨S1, .f32⟩
  | _, _ => ⟨S1x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kit.lean ====
/- What the triples of the kernel's body are stated over: the body's one branch condition in closed form over the grid
   points, where its input windows are idle (nowhere), the staging and scratch memrefs as the pipeline passes them, and
   the invariant of the pipeline with the two scratch buffers named. -/
module

public import proofs.«01_k».proof.Proof.Gen.KernelIdeal.Frame
public import proofs.«01_k».proof.Proof.Gen.KernelIdeal.Skeleton
public import Idealize.ShloMosaic.Lib.Ring
public import Idealize.ShloMosaic.Lib.WordCmp
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 28 = 0 :=
  (fun t => by
    have ht : t.val < 28 := Nat.lt_of_lt_of_eq t.isLt N_0
    have e0 : (grid0.coords t 0).val = t.val / 1 % 28 := Pipeline.Grid.coords_val t 0 (by decide) rfl
    simp only [cond0_0, k0_cond1, e0]
    word_cmp
   : ∀ t : Fin grid0.N, cond0_0 (grid0.coords t) ↔ t.val % 28 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2560 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2560 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2560 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x2560 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2048x2560 .bf16 := Memref.whole cc0_scratch0
abbrev scM0_1 : Memref sig .tc .vmem S2048x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Blocks.lean ====
/- What the kernel's body computes, as functions of the arrays it reads, at any float semantics.

   The first grid point quantises `dy` by rows, 256 rows at a time: each slab of 256 rows gives a slab of the int8 codes, of
   the codes as bf16 numbers, of the row scales repeated along 128 lanes, and of the row of scales. The whole arrays are the
   slabs put side by side. Every grid point then multiplies the stored codes with its block of the weight codes, and its
   block of `x` with `dy`. -/
module

public import proofs.«01_k».proof.Proof.Kit
public import Idealize.ShloMosaic.Lib.ValueIdx
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.ValueIdx Idealize.SL.Sem

variable {F : FTy → Type} [FloatOps F]

/-! ## The arrays the first point leaves -/

/-- The 256 rows of `dy` from row `r` on (`r` a multiple of 256 below 2048; the remainder only makes it total). -/
def rowsAt (dy : Vec F S2048x2560 .bf16) (r : Nat) : Vec F S256x2560 .bf16 := fun y =>
  dy (ix2 ⟨(r + (y 0).val) % 2048, Nat.mod_lt _ (by decide)⟩ (y 1))

/-- Slabs of 256 rows, one under the other: row `i` of the stack is row `i % 256` of the slab that starts at row
    `i / 256 * 256`. -/
def stack {n : Nat} {α : Type} (g : Nat → (⟨2, ![256, n]⟩ : Shape).Idx → α) : (⟨2, ![2048, n]⟩ : Shape).Idx → α := fun i =>
  g ((i 0).val / 256 * 256) (ix2 ⟨(i 0).val % 256, Nat.mod_lt _ (by decide)⟩ (i 1))

/-- Slabs of 256 columns, side by side. -/
def beside {n : Nat} {α : Type} (g : Nat → (⟨2, ![n, 256]⟩ : Shape).Idx → α) : (⟨2, ![n, 2048]⟩ : Shape).Idx → α := fun i =>
  g ((i 1).val / 256 * 256) (ix2 (i 0) ⟨(i 1).val % 256, Nat.mod_lt _ (by decide)⟩)

/-- The int8 codes of `dy`, slab by slab. -/
def codes (dy : Vec F S2048x2560 .bf16) : Vec F S2048x2560 .i8 := stack fun r => k0_pay9 (rowsAt dy r)
/-- The codes as bf16 numbers, which the first point keeps in scratch. -/
def quants (dy : Vec F S2048x2560 .bf16) : Vec F S2048x2560 .bf16 := stack fun r => k0_pay10 (rowsAt dy r)
/-- The row scales, each repeated along 128 lanes, which the first point keeps in scratch. -/
def scaleLanes (dy : Vec F S2048x2560 .bf16) : Vec F S2048x128 .f32 := stack fun r => k0_pay11 (rowsAt dy r)
/-- The row of scales. -/
def scaleRow (dy : Vec F S2048x2560 .bf16) : Vec F S1x2048 .f32 := beside fun r => k0_pay12 (rowsAt dy r)

/-! ## The two products of a point -/

/-- The block of `dw` a point computes from its block of `x` and the whole of `dy`. -/
def dwBlock (x : Vec F S2048x256 .bf16) (dy : Vec F S2048x2560 .bf16) : Vec F S256x2560 .f32 := k0_pay4 x dy

/-- The block of `dx` a point computes from the weight scale, the codes and the scales in scratch (lane 0 of them), and its
    block of the weight codes. -/
def dxBlock (ws : Vec F S1 .f32) (q : Vec F S2048x2560 .bf16) (s : Vec F S2048x128 .f32) (w : Vec F S256x2560 .i8) :
    Vec F S2048x256 .bf16 :=
  k0_pay5 q w (View.ld (Val := Elt F) s (Rect.unit (s := S2048x128) ![0, 0] S2048x1.size inb_S2048x128_S2048x1_0_0)) (ws (ix1 0))

/-! ## A slab of the whole arrays, under the rectangle it is stored through -/

/-- Under the rectangle of 256 rows from row `o`, a stack of slabs is the slab that starts there. -/
theorem stack_emb {n : Nat} {α : Type} (g : Nat → (⟨2, ![256, n]⟩ : Shape).Idx → α) (o : Nat) (ho : 256 ∣ o)
    (inb : ∀ a, (![o, 0] : Fin 2 → Nat) a + (![256, n] : Fin 2 → Nat) a ≤ (⟨2, ![2048, n]⟩ : Shape).size a)
    (x : (⟨2, ![256, n]⟩ : Shape).Idx) :
    stack g ((Rect.unit (s := ⟨2, ![2048, n]⟩) ![o, 0] ![256, n] inb).emb x) = g o x := by
  obtain ⟨b, rfl⟩ := ho
  have hx : (x 0).val < 256 := (x 0).isLt
  have e0 : (((Rect.unit (s := ⟨2, ![2048, n]⟩) ![256 * b, 0] ![256, n] inb).emb x) 0).val = 256 * b + 1 * (x 0).val := rfl
  have e1 : (((Rect.unit (s := ⟨2, ![2048, n]⟩) ![256 * b, 0] ![256, n] inb).emb x) 1).val = 0 + 1 * (x 1).val := rfl
  unfold stack
  have hr : (((Rect.unit (s := ⟨2, ![2048, n]⟩) ![256 * b, 0] ![256, n] inb).emb x) 0).val / 256 * 256 = 256 * b := by
    rw [e0]; omega
  rw [hr]
  refine congrArg _ (Shape.idx_ext₂ ?_ ?_)
  · show (((Rect.unit (s := ⟨2, ![2048, n]⟩) ![256 * b, 0] ![256, n] inb).emb x) 0).val % 256 = (x 0).val
    rw [e0]; omega
  · exact e1.trans ((Nat.zero_add _).trans (Nat.one_mul _))

/-- Under the rectangle of 256 columns from column `o`, slabs side by side are the slab that starts there. -/
theorem beside_emb {n : Nat} {α : Type} (g : Nat → (⟨2, ![n, 256]⟩ : Shape).Idx → α) (o : Nat) (ho : 256 ∣ o)
    (inb : ∀ a, (![0, o] : Fin 2 → Nat) a + (![n, 256] : Fin 2 → Nat) a ≤ (⟨2, ![n, 2048]⟩ : Shape).size a)
    (x : (⟨2, ![n, 256]⟩ : Shape).Idx) :
    beside g ((Rect.unit (s := ⟨2, ![n, 2048]⟩) ![0, o] ![n, 256] inb).emb x) = g o x := by
  obtain ⟨b, rfl⟩ := ho
  have hx : (x 1).val < 256 := (x 1).isLt
  have e0 : (((Rect.unit (s := ⟨2, ![n, 2048]⟩) ![0, 256 * b] ![n, 256] inb).emb x) 0).val = 0 + 1 * (x 0).val := rfl
  have e1 : (((Rect.unit (s := ⟨2, ![n, 2048]⟩) ![0, 256 * b] ![n, 256] inb).emb x) 1).val = 256 * b + 1 * (x 1).val := rfl
  unfold beside
  have hr : (((Rect.unit (s := ⟨2, ![n, 2048]⟩) ![0, 256 * b] ![n, 256] inb).emb x) 1).val / 256 * 256 = 256 * b := by
    rw [e1]; omega
  rw [hr]
  refine congrArg _ (Shape.idx_ext₂ ?_ ?_)
  · exact e0.trans ((Nat.zero_add _).trans (Nat.one_mul _))
  · show (((Rect.unit (s := ⟨2, ![n, 2048]⟩) ![0, 256 * b] ![n, 256] inb).emb x) 1).val % 256 = (x 1).val
    rw [e1]; omega

/-- A load of 256 rows of a whole buffer that holds `dy` reads the slab of `dy` that starts there. -/
theorem load_rows {m : Memref sig .tc .vmem S2048x2560 .bf16} (hm : m.IsWhole) (dy : Vec F S2048x2560 .bf16) (o : Nat)
    (inb : ∀ a, (![o, 0] : Fin 2 → Nat) a + (S256x2560.size : Fin 2 → Nat) a ≤ S2048x2560.size a) :
    View.readAt (Elt F) m.view (Rect.unit (s := S2048x2560) ![o, 0] S256x2560.size inb).toLoadRect (hm.unread dy) = rowsAt dy o := by
  funext y
  rw [View.readAt_apply, hm.read_unread]
  have h0 : o + 256 ≤ 2048 := inb 0
  have hy : (y 0).val < 256 := (y 0).isLt
  unfold rowsAt
  refine congrArg dy (Shape.idx_ext₂ ?_ ?_)
  · show o + 1 * (y 0).val = (o + (y 0).val) % 2048
    omega
  · show 0 + 1 * (y 1).val = (y 1).val
    omega

end Cert.KernelIdeal.Hand

end
-- ==== Proof.Whole.lean ====
/- Whole-buffer accesses: a buffer stored once from the origin, in full, reads back as what was stored, and a load of all of
   it reads what it holds. -/
module

public import Idealize.ShloMosaic.Lib.WholeRead
public import Idealize.ShloMosaic.Lib.ValueIdx
public import Idealize.ShloMosaic.Lib.Pipeline.Value

@[expose] public section

noncomputable section

namespace Cert.Whole

open Idealize.ShloMosaic Idealize.ShloMosaic.ValueIdx

variable {F : FTy → Type} [FloatOps F] {sig : RefSig}

/-- The offset of a rectangle that starts at the origin, in two axes. -/
theorem zero2 : (![0, 0] : Fin 2 → Nat) = fun _ => 0 := funext fun a => by fin_cases a <;> rfl
/-- The same in three axes. -/
theorem zero3 : (![0, 0, 0] : Fin 3 → Nat) = fun _ => 0 := funext fun a => by fin_cases a <;> rfl

/-- One store through the whole of a buffer leaves the buffer at what is stored, whatever it held. -/
theorem read_whole {sp : Space} {s : Shape} {e : EltTy} (v : View sig .tc sp s e) (f : v.ty.Contents (Elt F))
    {off : Fin s.rank → Nat} (h : off = fun _ => 0) (inb : ∀ a, off a + s.size a ≤ s.size a) (x : s.Idx → Elt F e) :
    v.read (Elt F) (v.writes (Elt F) f [⟨Rect.unit off s.size inb, x⟩]) = x := by
  rw [View.read_writes_eq_canon v f _ fun y => ⟨_, List.mem_singleton_self _, View.mem_set_unit_zero h inb y⟩]
  exact View.canon_unit_zero h inb x

/-- A load of the whole of a buffer that holds `X` reads `X`. -/
theorem load_whole {sp : Space} {s : Shape} {e : EltTy} {m : Memref sig .tc sp s e} (hm : m.IsWhole)
    {off : Fin s.rank → Nat} (h : off = fun _ => 0) (inb : ∀ a, off a + s.size a ≤ s.size a) (X : s.Idx → Elt F e) :
    View.readAt (Elt F) m.view (Rect.unit off s.size inb).toLoadRect (hm.unread X) = X := by
  rw [View.readAt_eq_ld, hm.read_unread]; exact View.ld_unit_zero h inb X

/-- A load of the one element of a scalar's buffer. -/
theorem load_scalar {m : Memref sig .tc .smem (⟨1, ![1]⟩ : Shape) .f32} (hm : m.IsWhole) (X : Vec F ⟨1, ![1]⟩ .f32)
    (inb : ∀ a, (![0] : Fin 1 → Nat) a + ((⟨1, ![1]⟩ : Shape).size : Fin 1 → Nat) a ≤ (⟨1, ![1]⟩ : Shape).size a) (j : (⟨1, ![1]⟩ : Shape).Idx) :
    View.readAt (Elt F) m.view (Rect.unit (s := (⟨1, ![1]⟩ : Shape)) ![0] (⟨1, ![1]⟩ : Shape).size inb).toLoadRect (hm.unread X) j = X (ix1 0) := by
  rw [View.readAt_apply, hm.read_unread]
  refine congrArg X (funext fun a => ?_)
  exact Fin.ext (by have := ((Rect.unit (s := (⟨1, ![1]⟩ : Shape)) ![0] (⟨1, ![1]⟩ : Shape).size inb).toLoadRect.idx j a).isLt; match a with | ⟨0, _⟩ => exact Nat.lt_one_iff.mp this)

end Cert.Whole

end
-- ==== Proof.Triples.lean ====
/- The triples of the kernel's body, with what it leaves named: at the first grid point, where it quantises `dy`, and at the
   later ones, where it reads what the first left in scratch. -/
module

public import proofs.«01_k».proof.Proof.Blocks
public import proofs.«01_k».proof.Proof.Whole

@[expose] public section

-- the rectangles of the stores have long axes; looking one up recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Cert.Whole
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What one store of the quantiser puts down -/

section Tiles

variable {m : Memref sig .tc .vmem S2048x2560 .bf16} (hm : m.IsWhole) (dy : Vec F S2048x2560 .bf16) (o : Nat) (ho : 256 ∣ o)
  (inb : ∀ a, (![o, 0] : Fin 2 → Nat) a + (S256x2560.size : Fin 2 → Nat) a ≤ S2048x2560.size a)
include ho

/-- The codes of the rows loaded from row `o` are the whole array of codes under the rectangle they are stored through. -/
theorem codes_tile (P : S256x2560.Idx → _)
    (hP : P = k0_pay9 (View.readAt (Elt F) m.view (Rect.unit (s := S2048x2560) ![o, 0] S256x2560.size inb).toLoadRect (hm.unread dy)))
    (x : S256x2560.Idx) : P x = codes dy ((Rect.unit (s := S2048x2560) ![o, 0] S256x2560.size inb).emb x) := by
  rw [hP, load_rows hm dy o inb]; exact (stack_emb (fun r => k0_pay9 (rowsAt dy r)) o ho inb x).symm

/-- The same for the codes as bf16 numbers. -/
theorem quants_tile (P : S256x2560.Idx → _)
    (hP : P = k0_pay10 (View.readAt (Elt F) m.view (Rect.unit (s := S2048x2560) ![o, 0] S256x2560.size inb).toLoadRect (hm.unread dy)))
    (x : S256x2560.Idx) : P x = quants dy ((Rect.unit (s := S2048x2560) ![o, 0] S256x2560.size inb).emb x) := by
  rw [hP, load_rows hm dy o inb]; exact (stack_emb (fun r => k0_pay10 (rowsAt dy r)) o ho inb x).symm

omit ho inb in
/-- A rectangle of 256 rows is inside `dy` when the rectangle of the same rows of the lane-repeated scales is inside them. -/
theorem inb_of_lanes (inb : ∀ a, (![o, 0] : Fin 2 → Nat) a + (S256x128.size : Fin 2 → Nat) a ≤ S2048x128.size a) :
    ∀ a, (![o, 0] : Fin 2 → Nat) a + (S256x2560.size : Fin 2 → Nat) a ≤ S2048x2560.size a :=
  Fin.forall_fin_two.mpr ⟨inb 0, Nat.le_refl _⟩

omit ho inb in
/-- … or when the rectangle of the same columns of the row of scales is inside it. -/
theorem inb_of_row (inb : ∀ a, (![0, o] : Fin 2 → Nat) a + (S1x256.size : Fin 2 → Nat) a ≤ S1x2048.size a) :
    ∀ a, (![o, 0] : Fin 2 → Nat) a + (S256x2560.size : Fin 2 → Nat) a ≤ S2048x2560.size a :=
  Fin.forall_fin_two.mpr ⟨inb 1, Nat.le_refl _⟩

omit inb in
/-- The same for the scales repeated along lanes. -/
theorem scaleLanes_tile (inb : ∀ a, (![o, 0] : Fin 2 → Nat) a + (S256x128.size : Fin 2 → Nat) a ≤ S2048x128.size a) (P : S256x128.Idx → _)
    (hP : P = k0_pay11 (View.readAt (Elt F) m.view (Rect.unit (s := S2048x2560) ![o, 0] S256x2560.size (inb_of_lanes o inb)).toLoadRect
        (hm.unread dy)))
    (x : S256x128.Idx) : P x = scaleLanes dy ((Rect.unit (s := S2048x128) ![o, 0] S256x128.size inb).emb x) := by
  rw [hP, load_rows hm dy o (inb_of_lanes o inb)]; exact (stack_emb (fun r => k0_pay11 (rowsAt dy r)) o ho inb x).symm

omit inb in
/-- The same for the row of scales. -/
theorem scaleRow_tile (inb : ∀ a, (![0, o] : Fin 2 → Nat) a + (S1x256.size : Fin 2 → Nat) a ≤ S1x2048.size a) (P : S1x256.Idx → _)
    (hP : P = k0_pay12 (View.readAt (Elt F) m.view (Rect.unit (s := S2048x2560) ![o, 0] S256x2560.size (inb_of_row o inb)).toLoadRect
        (hm.unread dy)))
    (x : S1x256.Idx) : P x = scaleRow dy ((Rect.unit (s := S1x2048) ![0, o] S1x256.size inb).emb x) := by
  rw [hP, load_rows hm dy o (inb_of_row o inb)]; exact (beside_emb (fun r => k0_pay12 (rowsAt dy r)) o ho inb x).symm

end Tiles

/-- Stores that tile a buffer, each putting down the tile of one array `G`, leave the buffer at `G`, whatever it held. -/
theorem read_tiles {sp : Space} {s : Shape} {e : EltTy} (v : View sig .tc sp s e) (f : v.ty.Contents (Elt F))
    (L : List (View.Piece (Elt F) s e)) (G : s.Idx → Elt F e) (hc : ∀ y, ∃ p ∈ L, y ∈ p.1.set)
    (hL : ∀ p ∈ L, ∀ x : p.1.shape.Idx, p.2 x = G (p.1.emb x)) : v.read (Elt F) (v.writes (Elt F) f L) = G := by
  rw [View.read_writes_eq_canon v f L hc]
  exact funext fun y => View.canon_apply_of_pieces G L hL y (hc y)

-- (the run's proof term is large: checking it walks past the default budget)
set_option maxHeartbeats 1000000 in
/-- THE FIRST POINT: on whole staging and scratch buffers, the inputs' holding their blocks and the others anything, the body
    leaves the inputs as they were, the outputs at the point's blocks of `dx` and `dw`, at the codes and at the row of
    scales, and the scratch at the codes as bf16 numbers and at the scales repeated along lanes -/
theorem run_first (c : Dev nD) (i : grid0.Coords) (arg1 : Memref sig .tc .smem S1 .f32) (harg1 : arg1.IsWhole) (arg2 : Memref sig .tc .vmem S2048x256 .bf16) (harg2 : arg2.IsWhole) (arg3 : Memref sig .tc .vmem S2048x2560 .bf16) (harg3 : arg3.IsWhole) (arg4 : Memref sig .tc .vmem S256x2560 .i8) (harg4 : arg4.IsWhole) (arg5 : Memref sig .tc .vmem S2048x256 .bf16) (harg5 : arg5.IsWhole) (arg6 : Memref sig .tc .vmem S256x2560 .f32) (harg6 : arg6.IsWhole) (arg7 : Memref sig .tc .vmem S2048x2560 .i8) (harg7 : arg7.IsWhole) (arg8 : Memref sig .tc .vmem S1x2048 .f32) (harg8 : arg8.IsWhole) (arg9 : Memref sig .tc .vmem S2048x2560 .bf16) (harg9 : arg9.IsWhole) (arg10 : Memref sig .tc .vmem S2048x128 .f32) (harg10 : arg10.IsWhole) (hc0 : cond0_0 i)
    (x0 : Vec F S1 .f32) (x1 : Vec F S2048x256 .bf16) (x2 : Vec F S2048x2560 .bf16) (x3 : Vec F S256x2560 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
              ∗ owns (c : Thread nD τ) arg5 fullShare (dxBlock x0 (quants x2) (scaleLanes x2) x3) ∗ owns (c : Thread nD τ) arg6 fullShare (dwBlock x1 x2) ∗ owns (c : Thread nD τ) arg7 fullShare (codes x2) ∗ owns (c : Thread nD τ) arg8 fullShare (scaleRow x2) ∗ owns (c : Thread nD τ) arg9 fullShare (quants x2) ∗ owns (c : Thread nD τ) arg10 fullShare (scaleLanes x2)) -∗ K ⟨⟩))
          ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10) K := by
    intro E K
    simp only [cc0_switchback_bwd_eq_skeleton]; unfold cc0_switchback_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    -- what the quantiser leaves in the two scratch buffers
    have cq : ∀ y, ∃ p ∈ run_first.sl.HS0_8 c arg3 harg3 x2, y ∈ p.1.set :=
      View.cover_of_tiledL _ S256x2560.size (by sl_kernel_rfl)
    have cs : ∀ y, ∃ p ∈ run_first.sl.HS1_8 c arg3 harg3 x2, y ∈ p.1.set :=
      View.cover_of_tiledL _ S256x128.size (by sl_kernel_rfl)
    have pq : ∀ p ∈ run_first.sl.HS0_8 c arg3 harg3 x2, ∀ x : p.1.shape.Idx, p.2 x = quants x2 (p.1.emb x) := by
      intro p hp
      unfold run_first.sl.HS0_8 at hp
      simp only [List.mem_cons, List.not_mem_nil, _root_.or_false] at hp
      rcases hp with rfl | rfl | rfl | rfl | rfl | rfl | rfl | rfl
      all_goals
        refine quants_tile harg3 x2 _ ?_ ?_ _ ?_
        · decide
        · decide
        · exact rfl
    have ps : ∀ p ∈ run_first.sl.HS1_8 c arg3 harg3 x2, ∀ x : p.1.shape.Idx, p.2 x = scaleLanes x2 (p.1.emb x) := by
      intro p hp
      unfold run_first.sl.HS1_8 at hp
      simp only [List.mem_cons, List.not_mem_nil, _root_.or_false] at hp
      rcases hp with rfl | rfl | rfl | rfl | rfl | rfl | rfl | rfl
      all_goals
        refine scaleLanes_tile harg3 x2 _ ?_ ?_ _ ?_
        · decide
        · decide
        · exact rfl
    have eq : run_first.sl.v9 c arg3 harg3 arg9 x2 = quants x2 := by
      unfold run_first.sl.v9
      rw [View.readCov_eq_canon_ld _ _ _ cq, funext fun y => View.canon_apply_of_pieces (quants x2) _ pq y (cq y)]
      exact View.ld_unit_zero zero2 _ _
    have es : run_first.sl.v13 c arg3 harg3 arg10 x2
        = View.ld (Val := Elt F) (scaleLanes x2) (Rect.unit (s := S2048x128) ![0, 0] S2048x1.size inb_S2048x128_S2048x1_0_0) := by
      unfold run_first.sl.v13
      rw [View.readCov_eq_canon_ld _ _ _ cs, funext fun y => View.canon_apply_of_pieces (scaleLanes x2) _ ps y (cs y)]
      try rfl
    have ew : run_first.sl.r_15 c arg1 harg1 x0 = x0 (ix1 0) := load_scalar harg1 x0 _ _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [read_whole _ _ zero2, eq, es, ew,
        load_whole harg4 zero2]
      rfl
    isplitl [H5]
    · iexists _; isplitr; swap; · iexact H5
      ipureintro
      rw [read_whole _ _ zero2, load_whole harg2 zero2,
        load_whole harg3 zero2]
      rfl
    isplitl [H6]
    · iexists _; isplitr; swap; · iexact H6
      ipureintro
      refine read_tiles _ _ _ _ (View.cover_of_tiledL _ S256x2560.size (by sl_kernel_rfl)) ?_
      intro p hp
      simp only [List.mem_cons, List.not_mem_nil, _root_.or_false] at hp
      rcases hp with rfl | rfl | rfl | rfl | rfl | rfl | rfl | rfl
      all_goals
        refine codes_tile harg3 x2 _ ?_ ?_ _ ?_
        · decide
        · decide
        · exact rfl
    isplitl [H7]
    · iexists _; isplitr; swap; · iexact H7
      ipureintro
      refine read_tiles _ _ _ _ (View.cover_of_tiledL _ S1x256.size (by sl_kernel_rfl)) ?_
      intro p hp
      simp only [List.mem_cons, List.not_mem_nil, _root_.or_false] at hp
      rcases hp with rfl | rfl | rfl | rfl | rfl | rfl | rfl | rfl
      all_goals
        refine scaleRow_tile harg3 x2 _ ?_ ?_ _ ?_
        · decide
        · decide
        · exact rfl
    isplitl [HS0]
    · iexists _; isplitr; swap; · iexact HS0
      ipureintro
      exact read_tiles _ _ _ _ cq pq
    iexists _; isplitr; swap; · iexact HS1
    ipureintro
    exact read_tiles _ _ _ _ cs ps

-- (the run's proof term is large: checking it walks past the default budget)
set_option maxHeartbeats 1000000 in
/-- A LATER POINT: the scratch holding codes `q` and scales `s`, the body computes its blocks of `dx` and `dw` from them and
    its input blocks; it reads and writes neither the codes' nor the scales' output, and leaves the scratch as it was -/
theorem run_later (c : Dev nD) (i : grid0.Coords) (arg1 : Memref sig .tc .smem S1 .f32) (harg1 : arg1.IsWhole) (arg2 : Memref sig .tc .vmem S2048x256 .bf16) (harg2 : arg2.IsWhole) (arg3 : Memref sig .tc .vmem S2048x2560 .bf16) (harg3 : arg3.IsWhole) (arg4 : Memref sig .tc .vmem S256x2560 .i8) (harg4 : arg4.IsWhole) (arg5 : Memref sig .tc .vmem S2048x256 .bf16) (harg5 : arg5.IsWhole) (arg6 : Memref sig .tc .vmem S256x2560 .f32) (harg6 : arg6.IsWhole) (arg7 : Memref sig .tc .vmem S2048x2560 .i8) (harg7 : arg7.IsWhole) (arg8 : Memref sig .tc .vmem S1x2048 .f32) (harg8 : arg8.IsWhole) (arg9 : Memref sig .tc .vmem S2048x2560 .bf16) (harg9 : arg9.IsWhole) (arg10 : Memref sig .tc .vmem S2048x128 .f32) (harg10 : arg10.IsWhole) (hc0 : ¬cond0_0 i)
    (x0 : Vec F S1 .f32) (x1 : Vec F S2048x256 .bf16) (x2 : Vec F S2048x2560 .bf16) (x3 : Vec F S256x2560 .i8)
    (x6 : Vec F S2048x2560 .i8) (x7 : Vec F S1x2048 .f32) (q : Vec F S2048x2560 .bf16) (s : Vec F S2048x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ owns (c : Thread nD τ) arg7 fullShare x6 ∗ owns (c : Thread nD τ) arg8 fullShare x7 ∗ owns (c : Thread nD τ) arg9 fullShare q ∗ owns (c : Thread nD τ) arg10 fullShare s
            ∗ (iprop(owns (c : Thread nD τ) arg1 fullShare x0 ∗ owns (c : Thread nD τ) arg2 fullShare x1 ∗ owns (c : Thread nD τ) arg3 fullShare x2 ∗ owns (c : Thread nD τ) arg4 fullShare x3
              ∗ owns (c : Thread nD τ) arg5 fullShare (dxBlock x0 q s x3) ∗ owns (c : Thread nD τ) arg6 fullShare (dwBlock x1 x2) ∗ owns (c : Thread nD τ) arg7 fullShare x6 ∗ owns (c : Thread nD τ) arg8 fullShare x7 ∗ owns (c : Thread nD τ) arg9 fullShare q ∗ owns (c : Thread nD τ) arg10 fullShare s) -∗ K ⟨⟩))
          ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10) K := by
    intro E K
    simp only [cc0_switchback_bwd_eq_skeleton]; unfold cc0_switchback_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hf6; obtain rfl := harg8.eq_unread hf7; obtain rfl := harg9.eq_unread hfs0; obtain rfl := harg10.eq_unread hfs1
    sl_exec (disch := first | sl_exact hc0)
    sl_step
    have ew : run_later.sl.r c arg1 harg1 x0 = x0 (ix1 0) := load_scalar harg1 x0 _ _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      rw [read_whole _ _ zero2, load_whole harg9 zero2, load_whole harg4 zero2, View.readAt_eq_ld, harg10.read_unread, ew]
      rfl
    isplitl [H5]
    · iexists _; isplitr; swap; · iexact H5
      ipureintro
      rw [read_whole _ _ zero2, load_whole harg2 zero2, load_whole harg3 zero2]
      rfl
    isplitl [H6]
    · iexists _; isplitr; · ipureintro; exact harg7.read_unread _
      iexact H6
    isplitl [H7]
    · iexists _; isplitr; · ipureintro; exact harg8.read_unread _
      iexact H7
    isplitl [HS0]
    · iexists _; isplitr; · ipureintro; exact harg9.read_unread _
      iexact HS0
    iexists _; isplitr; · ipureintro; exact harg10.read_unread _
    iexact HS1

end Cert.KernelIdeal.Hand

end
-- ==== Proof.Run.lean ====
/- The run of the kernel's pipeline with its values named: the proof data (what every window's staging buffer holds after
   each grid point, the two scratch buffers at the quantised gradient and the lanes of scales once the first point has
   run), the body obligation at every point, and the launch. -/
module

public import proofs.«01_k».proof.Proof.Triples
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t₀ : Fin cfg0.N := ⟨0, Nat.lt_of_lt_of_eq (by decide : 0 < 28) N_0.symm⟩

/-- The whole gradient `dy`, as the first point's block of its window (the window's one block). -/
def dyOf (c : Dev nD) : Vec F S2048x2560 .bf16 := iblk m c 2 t₀

/-- The proof data: the arrays as the region finds them; after point `t` an input's buffer at its block, `dx`'s at the
    block of columns the point computes, `dw`'s at the block of rows, the codes' and the scales' at those of the whole
    gradient (written at the first point, left alone afterwards); the scratch buffers, after the first point, at the
    quantised gradient and the lanes of scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxBlock (iblk m c 0 t) (quants (dyOf m c)) (scaleLanes (dyOf m c)) (iblk m c 3 t)
    | ⟨5, _⟩ => dwBlock (iblk m c 1 t) (iblk m c 2 t)
    | ⟨6, _⟩ => codes (dyOf m c)
    | ⟨7, _⟩ => scaleRow (dyOf m c)
  Φ t := if t.val = 0 then Pipeline.ΦA spec0 c else
    iprop(iprop(owns (c : Thread nD τ) scM0_0 fullShare (quants (dyOf m c)) ∗ owns (c : Thread nD τ) scM0_1 fullShare (scaleLanes (dyOf m c))) ∗ (∃ r, prngReg c r))
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves in each window's buffer, window by window. -/
theorem after0_0 (c : Dev nD) (t : Fin cfg0.N) : (dats m 0 c).after 0 t = iblk m c 0 t := by dsimp only [dats]
/-- After a point the buffer of `x` holds its block still. -/
theorem after0_1 (c : Dev nD) (t : Fin cfg0.N) : (dats m 0 c).after 1 t = iblk m c 1 t := by dsimp only [dats]
/-- So does the buffer of the gradient, -/
theorem after0_2 (c : Dev nD) (t : Fin cfg0.N) : (dats m 0 c).after 2 t = iblk m c 2 t := by dsimp only [dats]
/-- and that of the weights' codes. -/
theorem after0_3 (c : Dev nD) (t : Fin cfg0.N) : (dats m 0 c).after 3 t = iblk m c 3 t := by dsimp only [dats]
/-- A point leaves its block of `dx`, -/
theorem after0_4 (c : Dev nD) (t : Fin cfg0.N) : (dats m 0 c).after 4 t = dxBlock (iblk m c 0 t) (quants (dyOf m c)) (scaleLanes (dyOf m c)) (iblk m c 3 t) := by dsimp only [dats]
/-- its block of `dw`, -/
theorem after0_5 (c : Dev nD) (t : Fin cfg0.N) : (dats m 0 c).after 5 t = dwBlock (iblk m c 1 t) (iblk m c 2 t) := by dsimp only [dats]
/-- the codes of the whole gradient, -/
theorem after0_6 (c : Dev nD) (t : Fin cfg0.N) : (dats m 0 c).after 6 t = codes (dyOf m c) := by dsimp only [dats]
/-- and the row of scales. -/
theorem after0_7 (c : Dev nD) (t : Fin cfg0.N) : (dats m 0 c).after 7 t = scaleRow (dyOf m c) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
/-- Before a point the buffer of `x` holds its block. -/
theorem before0_1 (c : Dev nD) (t : Fin cfg0.N) (d) : (dats m 0 c).before 1 t d = iblk m c 1 t :=
  before0_1_of m (dats m 0 c) (A_eq m c 1) (after0_1 m c) t d
/-- Before a point the buffer of the gradient holds it. -/
theorem before0_2 (c : Dev nD) (t : Fin cfg0.N) (d) : (dats m 0 c).before 2 t d = iblk m c 2 t :=
  before0_2_of m (dats m 0 c) (A_eq m c 2) (after0_2 m c) t d
/-- Before a point the buffer of the weights' codes holds its block. -/
theorem before0_3 (c : Dev nD) (t : Fin cfg0.N) (d) : (dats m 0 c).before 3 t d = iblk m c 3 t :=
  before0_3_of m (dats m 0 c) (A_eq m c 3) (after0_3 m c) t d

/-! ## The two outputs written at the first point only -/

/-- A window idle off the first point and written back at the last point only: its buffer is fresh at the start and
    after the last point, and at no point between. -/
theorem fresh_of (w : Fin cfg0.W) (hi : ∀ t : Fin cfg0.N, cfg0.idle w (grid0.coords t) = !(k0_cond1 (grid0.coords t) == 1#1))
    (hf : ∀ t : Fin cfg0.N, (cfg0.win w).flush t = true ↔ t.val % 28 = 27) (n : ℕ) (hn : n ≤ cfg0.N) :
    cfg0.fresh w n = (n == 0 || n == 28) := by
  refine cfg0.fresh_tab w (fun n => n == 0 || n == 28) rfl (fun t => ?_) n hn
  have ht : t.val < 28 := lt_of_lt_of_eq t.isLt (show cfg0.N = 28 from N_0)
  have hc := hcond0_0 t
  have h1 : (cfg0.win w).flush t = decide (t.val = 27) := by
    rw [Bool.eq_iff_iff, hf t, decide_eq_true_iff, Nat.mod_eq_of_lt ht]
  have h2 : cfg0.idle w (cfg0.grid.coords t) = !decide (t.val = 0) := by
    refine (hi t).trans (congrArg (fun b => !b) ?_)
    rw [Bool.eq_iff_iff, beq_iff_eq, decide_eq_true_iff, ← Nat.mod_eq_of_lt ht]
    exact hc
  rw [h1, h2]
  by_cases e0 : t.val = 0
  · simp [e0]
  · have e2 : t.val ≠ 28 := Nat.ne_of_lt ht
    by_cases e1 : t.val = 27
    · simp [e1]
    · simp [beq_false_of_ne e0, beq_false_of_ne e1, beq_false_of_ne e2, e0, e1]

/-- Past the first point such a window's buffer still holds what the first point left, when the proof data says the
    same of every point. -/
theorem before_kept (c : Dev nD) (w : Fin cfg0.W) (hw : (cfg0.win w).isOut = true) (hclip : ∀ i a, (cfg0.win w).clip i a = none)
    (hi : ∀ t : Fin cfg0.N, cfg0.idle w (grid0.coords t) = !(k0_cond1 (grid0.coords t) == 1#1))
    (hf : ∀ t : Fin cfg0.N, (cfg0.win w).flush t = true ↔ t.val % 28 = 27)
    (hafter : ∀ t t', (dats m 0 c).after w t = (dats m 0 c).after w t') (t : Fin cfg0.N) (h0 : t.val ≠ 0) (d) :
    (dats m 0 c).before w t d = (dats m 0 c).after w t := by
  have ht : t.val < 28 := lt_of_lt_of_eq t.isLt (show cfg0.N = 28 from N_0)
  rw [(dats m 0 c).before_out_traj w hw hclip (fun t _ _ _ => hafter _ _) t.val t rfl d,
    if_neg (by rw [fresh_of w hi hf t.val t.isLt.le]; simp; omega)]
  exact hafter _ _

/-- Before a later point the output buffer of codes holds what the first point left. -/
theorem before0_6 (c : Dev nD) (t : Fin cfg0.N) (h0 : t.val ≠ 0) (d) : (dats m 0 c).before 6 t d = codes (dyOf m c) :=
  (before_kept m c 6 rfl (fun _ _ => rfl) (fun _ => rfl) flush0_6 (fun t t' => (after0_6 m c t).trans (after0_6 m c t').symm) t h0 d).trans (after0_6 m c t)
/-- The same for the row of scales. -/
theorem before0_7 (c : Dev nD) (t : Fin cfg0.N) (h0 : t.val ≠ 0) (d) : (dats m 0 c).before 7 t d = scaleRow (dyOf m c) :=
  (before_kept m c 7 rfl (fun _ _ => rfl) (fun _ => rfl) flush0_7 (fun t t' => (after0_7 m c t).trans (after0_7 m c t').symm) t h0 d).trans (after0_7 m c t)

/-- At a point where the window is not idle its buffer ends at what the proof data says. -/
theorem leaves_live (c : Dev nD) (w : Fin cfg0.W) (t : Fin cfg0.N) (hi : cfg0.idle w (grid0.coords t) = false) :
    (dats m 0 c).leavesExact w t = owns (c : Thread nD τ) ((cfg0.win w).stage (cfg0.slots t w)) fullShare ((dats m 0 c).after w t) := by
  unfold Dat.leavesExact
  rw [show cfg0.idle w (cfg0.grid.coords t) = false from hi]

/-- At a point where the buffer was found at what the proof data says and is left so, that is the point's post,
    idle or not, written back or not. -/
theorem leaves_kept (c : Dev nD) (w : Fin cfg0.W) (t : Fin cfg0.N) (hb : ∀ d, (dats m 0 c).before w t d = (dats m 0 c).after w t) :
    owns (c : Thread nD τ) ((cfg0.win w).stage (cfg0.slots t w)) fullShare ((dats m 0 c).after w t) ⊢ ((dats m 0 c).leavesExact w t : sProp 𝕄) := by
  unfold Dat.leavesExact
  split
  · split
    · iintro H
      iexists ((dats m 0 c).after w t)
      rw [hb]
      iexact H
    · exact .rfl
  · exact .rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The invariant past the first point: the scratch buffers at the quantised gradient and the lanes of scales. -/
theorem Phi_later (c : Dev nD) (t : Fin (cfg0.N + 1)) (h : t.val ≠ 0) : (dats m 0 c).Φ t
    = iprop(iprop(owns (c : Thread nD τ) scM0_0 fullShare (quants (dyOf m c)) ∗ owns (c : Thread nD τ) scM0_1 fullShare (scaleLanes (dyOf m c))) ∗ (∃ r, prngReg c r)) := by
  dsimp only [dats]; rw [if_neg h]
/-- The invariant before the first point: the scratch buffers at some contents. -/
theorem Phi_first (c : Dev nD) (t : Fin (cfg0.N + 1)) (h : t.val = 0) : (dats m 0 c).Φ t = (Pipeline.ΦA spec0 c : sProp 𝕄) := by
  dsimp only [dats]; rw [if_pos h]

set_option maxHeartbeats 1600000 in
/-- The body at any point: at the first it quantises the whole gradient and leaves it in the scratch buffers; at a later
    one it reads them there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [Phi_later m c t.succ (Nat.succ_ne_zero _)]
  rw [leaves_live m c 0 t rfl, leaves_live m c 1 t rfl, leaves_live m c 2 t rfl, leaves_live m c 3 t rfl, leaves_live m c 4 t rfl, leaves_live m c 5 t rfl]
  rw [after0_0, after0_1, after0_2, after0_3, after0_4, after0_5]
  have hN : t.val < 28 := lt_of_lt_of_eq t.isLt (show cfg0.N = 28 from N_0)
  by_cases h0 : t.val = 0
  · have hc : cond0_0 (grid0.coords t) := (hcond0_0 t).mpr (by rw [h0])
    have hi : (!(k0_cond1 (grid0.coords t) == 1#1)) = false := by rw [show k0_cond1 (grid0.coords t) = 1#1 from hc]; rfl
    have et : t = t₀ := Fin.ext h0
    rw [leaves_live m c 6 t hi, leaves_live m c 7 t hi, after0_6, after0_7]
    rw [Phi_first m c t.castSucc h0, PhiA0_eq]
    have ed : dyOf m c = iblk m c 2 t := by rw [et]; rfl
    rw [ed]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_first c (grid0.coords t) _ _ _ _ _ _ _ _ _ _ _ _ _ _ _ _ _ _ _ _ hc (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc : ¬ cond0_0 (grid0.coords t) := fun h => h0 (by rw [← Nat.mod_eq_of_lt hN]; exact (hcond0_0 t).mp h)
    rw [Phi_later m c t.castSucc h0]
    have k6 := leaves_kept m c 6 t (fun d => (before0_6 m c t h0 d).trans (after0_6 m c t).symm)
    have k7 := leaves_kept m c 7 t (fun d => (before0_7 m c t h0 d).trans (after0_7 m c t).symm)
    rw [after0_6] at k6
    rw [after0_7] at k7
    simp only [before0_6 m c t h0, before0_7 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_later c (grid0.coords t) _ _ _ _ _ _ _ _ _ _ _ _ _ _ _ _ _ _ _ _ hc (iblk m c 0 t) (iblk m c 1 t) (iblk m c 2 t) (iblk m c 3 t)
      (codes (dyOf m c)) (scaleRow (dyOf m c)) (quants (dyOf m c)) (scaleLanes (dyOf m c))) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply k6; iexact H6
    iapply k7; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant at the end gives back the scratch buffers and the generator register. -/
theorem Phi_out (c : Dev nD) : (dats m 0 c).Φ (Fin.last cfg0.N) ⊢ (Pipeline.ΦA spec0 c : sProp 𝕄) := by
  rw [Phi_later m c _ (by rw [Fin.val_last, show cfg0.N = 28 from N_0]; decide), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
/-- The launch: from any memory with zero counters every weakly fair execution of @main terminates, every window's
    array ends at what the proof data accumulates, every other buffer at its region-entry contents, every counter at
    zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => (Phi_first m c 0 rfl).symm ▸ .rfl) (hout := Phi_out m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame claim at any float interpretation: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelFrame.lean ====
/- The frame of the kernel as printed: its program is, term for term, the ideal kernel's, whose run is proved at any float
   semantics. So that run is its run too. -/
module

public import proofs.«01_k».proof.Proof.Run
public import proofs.«01_k».proof.Proof.Gen.Kernel

@[expose] public section

-- comparing the two printed bodies recurses once per statement
set_option maxRecDepth 65536

noncomputable section

namespace Cert.Kernel.Hand

open Cert.Kernel
open Idealize.ShloMosaic Idealize.ShloMosaic.TcCoe Idealize.SL.Sem

variable {F : FTy → Type} [FloatOps F]

/-- The two programs have the same body at every grid point. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- The two programs have the same functions, the pipeline's around the body included. -/
theorem defs_eq : Cert.Kernel.defs (F := F) = Cert.KernelIdeal.defs (F := F) :=
  congrArg (Pipeline.defs (Cert.KernelIdeal.pcfgs (F := F))) defs₀_eq

variable (m : (ℓ : Loc nD τ sig) → Buf (Elt F) ℓ) (ρ : Dev nD → PrngReg)

/-- The frame claim: the arguments end unchanged, every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact Cert.KernelIdeal.Hand.frame (F := F) m ρ

end Cert.Kernel.Hand

end
-- ==== Proof.Entry.lean ====
/- The arrays the region finds: the two reshaped arguments, element by element, and the blocks the windows read off them. -/
module

public import proofs.«01_k».proof.Proof.Gen.KernelIdeal.Frame
public import Idealize.ShloMosaic.Lib.Pipeline.ValueKit.Geometry
public import Idealize.ShloMosaic.Lib.Pointwise
public import Idealize.ShloMosaic.Lib.Claim

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The region finds `x` as the argument without its leading axis of one. -/
theorem V_main_v0 (c : Dev nD) : (V m c main_v0 : S2048x7168.Idx → Elt F .bf16)
    = shapeCast S2048x7168 (m ((c : Thread nD τ).loc main_arg0) : S1x2048x7168.Idx → Elt F .bf16) shapeCasts_S1x2048x7168_S2048x7168 := by
  unfold_abbrev_sides
  after_results
  rfl

/-- The region finds the gradient as the argument without its leading axis of one. -/
theorem V_main_v1 (c : Dev nD) : (V m c main_v1 : S2048x2560.Idx → Elt F .bf16)
    = shapeCast S2048x2560 (m ((c : Thread nD τ).loc main_arg1) : S1x2048x2560.Idx → Elt F .bf16) shapeCasts_S1x2048x2560_S2048x2560 := by
  unfold_abbrev_sides
  after_results
  rfl

/-- Dropping a leading axis of one, at an index. -/
theorem drop_unit_x (v : Vec F S1x2048x7168 .bf16) (i : S2048x7168.Idx) :
    shapeCast S2048x7168 v shapeCasts_S1x2048x7168_S2048x7168 i = v (ix3 0 (i 0) (i 1)) := by
  pointwise []
/-- The same for the gradient. -/
theorem drop_unit_dy (v : Vec F S1x2048x2560 .bf16) (i : S2048x2560.Idx) :
    shapeCast S2048x2560 v shapeCasts_S1x2048x2560_S2048x2560 i = v (ix3 0 (i 0) (i 1)) := by
  pointwise []

/-! ## Where each window's block lies at each point -/

/-- Point `t` reads the `t`-th block of columns of `x`. -/
theorem index1 : ∀ t : Fin cfg0.N, win0_1.index t = ![0, t.val] := (by decide +kernel : ∀ t : Fin grid0.N, win0_1.index t = ![0, t.val])
/-- The gradient is one block. -/
theorem index2 : ∀ t : Fin cfg0.N, win0_2.index t = ![0, 0] := (by decide +kernel : ∀ t : Fin grid0.N, win0_2.index t = ![0, 0])
/-- Point `t` reads the `t`-th block of rows of the weights' codes. -/
theorem index3 : ∀ t : Fin cfg0.N, win0_3.index t = ![t.val, 0] := (by decide +kernel : ∀ t : Fin grid0.N, win0_3.index t = ![t.val, 0])
/-- The weights' scale has one block. -/
theorem index0 : ∀ t : Fin cfg0.N, win0_0.index t = ![0] := (by decide +kernel : ∀ t : Fin grid0.N, win0_0.index t = ![0])
/-- Point `t` writes the `t`-th block of columns of `dx`. -/
theorem index4 : ∀ t : Fin cfg0.N, win0_4.index t = ![0, t.val] := (by decide +kernel : ∀ t : Fin grid0.N, win0_4.index t = ![0, t.val])
/-- Point `t` writes the `t`-th block of rows of `dw`. -/
theorem index5 : ∀ t : Fin cfg0.N, win0_5.index t = ![t.val, 0] := (by decide +kernel : ∀ t : Fin grid0.N, win0_5.index t = ![t.val, 0])

/-! ## The blocks of the inputs, as reads of the arguments -/

/-- The block of `x` at a point: 256 columns of the argument. -/
theorem block_x (c : Dev nD) (t : Fin cfg0.N) (y : S2048x256.Idx) (h : t.val * 256 + (y 1).val < 7168) :
    (iblk m c 1 t : S2048x256.Idx → Elt F .bf16) y
      = (m ((c : Thread nD τ).loc main_arg0) : S1x2048x7168.Idx → Elt F .bf16) (ix3 0 (y 0) ⟨t.val * 256 + (y 1).val, h⟩) := by
  blk_simp [iblk]
  refine (congrFun (V_main_v0 m c) _).trans ((drop_unit_x _ _).trans (congrArg _ (congrArg₂ (ix3 0) (Fin.ext ?_) (Fin.ext ?_))))
  · blk_simp [index1]
  · blk_simp [index1]

/-- The block of the gradient at any point: the whole argument. -/
theorem block_dy (c : Dev nD) (t : Fin cfg0.N) (y : S2048x2560.Idx) :
    (iblk m c 2 t : S2048x2560.Idx → Elt F .bf16) y
      = (m ((c : Thread nD τ).loc main_arg1) : S1x2048x2560.Idx → Elt F .bf16) (ix3 0 (y 0) (y 1)) := by
  blk_simp [iblk]
  refine (congrFun (V_main_v1 m c) _).trans ((drop_unit_dy _ _).trans (congrArg _ (congrArg₂ (ix3 0) (Fin.ext ?_) (Fin.ext ?_))))
  · blk_simp [index2]
  · blk_simp [index2]

/-- The block of the weight codes at a point: 256 rows of the argument. -/
theorem block_w (c : Dev nD) (t : Fin cfg0.N) (y : S256x2560.Idx) (h : t.val * 256 + (y 0).val < 7168) :
    (iblk m c 3 t : S256x2560.Idx → Elt F .i8) y
      = (m ((c : Thread nD τ).loc main_arg2) : S7168x2560.Idx → Elt F .i8) (ix2 ⟨t.val * 256 + (y 0).val, h⟩ (y 1)) := by
  blk_simp [iblk]
  refine (congrFun (V_main_arg2 m c) _).trans (congrArg _ (Shape.idx_ext₂ ?_ ?_))
  · blk_simp [index3]
  · blk_simp [index3]

/-- The weights' scale at any point: the argument's one element. -/
theorem block_ws (c : Dev nD) (t : Fin cfg0.N) (y : S1.Idx) :
    (iblk m c 0 t : S1.Idx → Elt F .f32) y = (m ((c : Thread nD τ).loc main_arg3) : S1.Idx → Elt F .f32) y := by
  blk_simp [iblk]
  refine (congrFun (V_main_arg3 m c) _).trans (congrArg _ (funext fun a => Fin.ext ?_))
  match a with
  | ⟨0, _⟩ => blk_simp [index0]

end Cert.KernelIdeal.Hand

end
-- ==== Proof.Spec.lean ====
/- The problem's mathematics over the extended reals, free of any program: the scale and the int8 levels of one row of
   the gradient, and one element of each of the two products. -/
module

public import Idealize.ShloMosaic.Lib.Pointwise
public import Idealize.ShloMosaic.Lib.IdealHost

@[expose] public section

noncomputable section

namespace Cert.Math

open Idealize.ShloMosaic
open scoped BigOperators

/-- The greatest magnitude in a row of the gradient. -/
def rowMax (d : Fin 2560 → EReal) : EReal := Finset.univ.sup fun j => max (d j) (-(d j))

/-- The row's scale: a 127th of its greatest magnitude, 1 for a row of zeros. -/
def rowScale (d : Fin 2560 → EReal) : EReal := if rowMax d = 0 then 1 else Ideal.div (rowMax d) ((127 : ℝ) : EReal)

/-- Entry `j` of the row in units of the scale, rounded to the nearest integer (ties to even) and held to [-127, 127]. -/
def level (d : Fin 2560 → EReal) (j : Fin 2560) : EReal :=
  min ((127 : ℝ) : EReal) (max ((-127 : ℝ) : EReal) (Ideal.liftRound Ideal.roundHalfEven (Ideal.div (d j) (rowScale d))))

/-- The same integer as a signed byte. -/
def code (d : Fin 2560 → EReal) (j : Fin 2560) : BitVec 8 := Ideal.fptosi 8 (level d j)

/-- One element of `dx`: a row of the gradient's levels against a row of the weights' codes, rescaled by the row's and
    by the weights' scale. -/
def dxAt (d : Fin 2560 → EReal) (w : Fin 2560 → BitVec 8) (s : EReal) : EReal :=
  (∑ j, level d j * (((w j).toInt : ℝ) : EReal)) * rowScale d * s

/-- One element of `dw`: a column of `x` against a column of the gradient. -/
def dwAt (x d : Fin 2048 → EReal) : EReal := ∑ i, x i * d i

/-- The f32 pattern of 127. -/
theorem ofBits_127 : Ideal.ofBits .f32 0x42FE0000#32 = ((127 : ℝ) : EReal) := by
  simp [Ideal.ofBits, Ideal.ieee, -EReal.coe_mul]; norm_num

/-- The f32 pattern of -127. -/
theorem ofBits_neg_127 : Ideal.ofBits .f32 0xC2FE0000#32 = ((-127 : ℝ) : EReal) := by
  simp [Ideal.ofBits, Ideal.ieee, -EReal.coe_mul, -EReal.coe_neg]; norm_num

/-- The f32 pattern of minus infinity. -/
theorem ofBits_bot : Ideal.ofBits .f32 0xFF800000#32 = ⊥ := by
  simp [Ideal.ofBits, Ideal.ieee]

/-- A fold of `max` from minus infinity over a row's magnitudes is the row's greatest magnitude. -/
theorem fold_eq_rowMax (d : Fin 2560 → EReal) :
    Finset.univ.fold max (Ideal.ofBits .f32 0xFF800000#32) (fun j => max (d j) (-(d j))) = rowMax d := by
  rw [ofBits_bot]; rfl

/-- A level is an integer of [-127, 127], whatever the row holds. -/
theorem level_int (d : Fin 2560 → EReal) (j : Fin 2560) : ∃ k : ℤ, -127 ≤ k ∧ k ≤ 127 ∧ level d j = ((k : ℝ) : EReal) := by
  have h : ∀ x : EReal, ∃ k : ℤ, -127 ≤ k ∧ k ≤ 127
      ∧ min ((127 : ℝ) : EReal) (max ((-127 : ℝ) : EReal) (Ideal.liftRound Ideal.roundHalfEven x)) = ((k : ℝ) : EReal) := by
    intro x
    induction x using EReal.rec with
    | bot => exact ⟨-127, le_rfl, by norm_num, by
        rw [show Ideal.liftRound Ideal.roundHalfEven ⊥ = ⊥ from rfl, max_eq_left bot_le, min_eq_right (EReal.coe_le_coe_iff.2 (by norm_num))]
        norm_num⟩
    | top => exact ⟨127, by norm_num, le_rfl, by
        rw [show Ideal.liftRound Ideal.roundHalfEven ⊤ = ⊤ from rfl, max_eq_right le_top, min_eq_left le_top]
        norm_num⟩
    | coe r =>
      refine ⟨min 127 (max (-127) (Ideal.roundHalfEven r)), by omega, by omega, ?_⟩
      rw [show Ideal.liftRound Ideal.roundHalfEven (r : EReal) = ((Ideal.roundHalfEven r : ℝ) : EReal) from rfl]
      push_cast
      rfl
  exact h _

/-- So the byte, read back as a number, is the level itself. -/
theorem code_toInt (d : Fin 2560 → EReal) (j : Fin 2560) : (((code d j).toInt : ℝ) : EReal) = level d j := by
  obtain ⟨k, h1, h2, hk⟩ := level_int d j
  have e : code d j = BitVec.ofInt 8 k := by
    unfold code Ideal.fptosi
    rw [hk]
    congr 1
    show max _ (min _ (if 0 ≤ (k : ℝ) then ⌊(k : ℝ)⌋ else ⌈(k : ℝ)⌉)) = k
    rw [Int.floor_intCast, Int.ceil_intCast, ite_self]
    norm_num
    omega
  rw [e, hk, BitVec.toInt_ofInt, Int.bmod_eq_of_le (by norm_num; omega) (by norm_num; omega)]

/-! ## The operations the kernel and the reference share, at an index -/

section Shared
variable {s : Shape}

/-- The scale's choice, at an index: `one` where the maximum is `z`, else the maximum over `c`. -/
theorem choose_apply (u : FVec Ideal s .f32) (z one c : Ideal .f32) (i : s.Idx) :
    select (cmpf .oeq u (broadcast s z)) (broadcast s one) (divf u (broadcast s c)) i = if u i = z then one else Ideal.div (u i) c := by
  show Scalar.select (BitVec.ofBool (decide (u i = z))) one (Ideal.div (u i) c) = _
  by_cases h : u i = z
  · rw [if_pos h, decide_eq_true h]; rfl
  · rw [if_neg h, decide_eq_false h]; rfl

/-- Division, rounding and clipping, at an index. -/
theorem clip_apply (g u : FVec Ideal s .f32) (lo hi : Ideal .f32) (i : s.Idx) :
    minimumf (broadcast s hi) (maximumf (broadcast s lo) (roundeven (divf g u))) i
      = min hi (max lo (Ideal.liftRound Ideal.roundHalfEven (Ideal.div (g i) (u i)))) := rfl

/-- The two rescalings of a product, at an index. -/
theorem rescale_apply (p c : FVec Ideal s .f32) (a : Ideal .f32) (h : FTy.bf16.bits < FTy.f32.bits) (i : s.Idx) :
    truncf .bf16 (mulf (mulf p c) (broadcast s a)) h i = p i * c i * a := rfl

/-- A magnitude, at an index. -/
theorem magnitude_apply (g : FVec Ideal s .f32) (i : s.Idx) : absf g i = max (g i) (-(g i)) := rfl

/-- A signed byte read as a number, at an index. -/
theorem number_apply (b : IVec s 8) (i : s.Idx) : (sitofp .bf16 b : FVec Ideal s .bf16) i = (((b i).toInt : ℝ) : EReal) := rfl

/-- A number converted to a signed byte, at an index. -/
theorem byte_apply (g : FVec Ideal s .f32) (i : s.Idx) : fptosi 8 g i = Ideal.fptosi 8 (g i) := rfl

end Shared

/-- The constants as the programs spell them. -/
theorem const_127 : (Scalar.ofBits .f32 0x42FE0000#32 : Ideal .f32) = ((127 : ℝ) : EReal) := ofBits_127
/-- The constant -127. -/
theorem const_neg_127 : (Scalar.ofBits .f32 0xC2FE0000#32 : Ideal .f32) = ((-127 : ℝ) : EReal) := ofBits_neg_127
/-- The constant 1. -/
theorem const_one : (Scalar.ofBits .f32 0x3F800000#32 : Ideal .f32) = (1 : EReal) := Ideal.ofBits_one_f32
/-- The constant 0. -/
theorem const_zero : (Scalar.ofBits .f32 0x00000000#32 : Ideal .f32) = (0 : EReal) := Ideal.ofBits_zero_f32

end Cert.Math

end
-- ==== Proof.TilePayloads.lean ====
/- What the kernel computes on one tile of 256 rows of the gradient, and on one block of columns or rows of the products,
   over the extended reals, element by element. -/
module

public import proofs.«01_k».proof.Proof.Spec
public import proofs.«01_k».proof.Proof.Gen.KernelIdeal.Skeleton

@[expose] public section

noncomputable section

namespace Cert.KernelIdeal.Hand

open Idealize.ShloMosaic Cert.Math Cert.KernelIdeal Cert.KernelIdeal.Gen

/-- Row `i` of a tile. -/
def tileRow (v : FVec Ideal S256x2560 .bf16) (i : Fin 256) : Fin 2560 → EReal := fun j => v (ix2 i j)

/-- A vector as a column. -/
theorem vector_column (v : FVec Ideal S256 .f32) (i : S256x1.Idx) :
    shapeCast S256x1 v shapeCasts_S256_S256x1 i = v (ix1 (i 0)) := by
  pointwise []

/-- The maximum along each row. -/
theorem row_maximum (v : FVec Ideal S256x2560 .f32) (i : S256.Idx) :
    multiReduction .maximumf [1] S256 v 0xFF800000#32 reduces_S256x2560_S256 (.inl rfl) rfl i
      = Finset.univ.fold max (Ideal.ofBits .f32 0xFF800000#32) fun x => v (ix2 (i 0) x) := by
  pointwise []

/-- A column repeated along the rows. -/
theorem column_broadcast (v : FVec Ideal S256x1 .f32) (i : S256x2560.Idx) :
    broadcastTo S256x2560 v broadcasts_S256x1_S256x2560 i = v (ix2 (i 0) 0) := by
  pointwise []

/-- The tile widened to f32 is the tile. -/
theorem tile_apply (v : FVec Ideal S256x2560 .bf16) (i : S256x2560.Idx) : k0_pay6 (F := Ideal) v i = tileRow v (i 0) (i 1) := by
  unfold tileRow
  pointwise [k0_pay6]

/-- The tile's scale column. -/
theorem tile_scale (v : FVec Ideal S256x2560 .bf16) (i : S256x1.Idx) : k0_pay7 (F := Ideal) v i = rowScale (tileRow v (i 0)) := by
  have hm : shapeCast S256x1 (multiReduction .maximumf [1] S256 (absf (k0_pay6 (F := Ideal) v)) 0xFF800000#32 reduces_S256x2560_S256 (.inl rfl) rfl) shapeCasts_S256_S256x1 i
      = rowMax (tileRow v (i 0)) := by
    rw [vector_column, row_maximum, ← fold_eq_rowMax]
    refine congrArg (fun f => Finset.univ.fold max _ f) (funext fun x => ?_)
    rw [magnitude_apply, tile_apply]
    rfl
  unfold k0_pay7 rowScale
  rw [choose_apply, hm, const_127, const_one, const_zero]

/-- The tile's levels, as f32. -/
theorem tile_level (v : FVec Ideal S256x2560 .bf16) (i : S256x2560.Idx) : k0_pay8 (F := Ideal) v i = level (tileRow v (i 0)) (i 1) := by
  unfold k0_pay8 level
  rw [clip_apply, tile_apply, column_broadcast, tile_scale, const_127, const_neg_127]
  rfl

/-- The tile's codes. -/
theorem tile_code (v : FVec Ideal S256x2560 .bf16) (i : S256x2560.Idx) : k0_pay9 (F := Ideal) v i = code (tileRow v (i 0)) (i 1) := by
  unfold k0_pay9 code
  rw [byte_apply, tile_level]

/-- The tile's levels, as kept for the products. -/
theorem tile_quant (v : FVec Ideal S256x2560 .bf16) (i : S256x2560.Idx) : k0_pay10 (F := Ideal) v i = level (tileRow v (i 0)) (i 1) := by
  rw [← tile_level]
  pointwise [k0_pay10]

/-- The tile's scales, one row's scale in every lane. -/
theorem tile_lanes (v : FVec Ideal S256x2560 .bf16) (i : S256x128.Idx) : k0_pay11 (F := Ideal) v i = rowScale (tileRow v (i 0)) := by
  have h : k0_pay11 (F := Ideal) v i = k0_pay7 v (ix2 (i 0) 0) := by pointwise [k0_pay11]
  rw [h, tile_scale]
  rfl

/-- The tile's scales, laid along a row. -/
theorem tile_scale_row (v : FVec Ideal S256x2560 .bf16) (i : S1x256.Idx) : k0_pay12 (F := Ideal) v i = rowScale (tileRow v (i 1)) := by
  have h : k0_pay12 (F := Ideal) v i = k0_pay7 v (ix2 (i 1) 0) := by pointwise [k0_pay12]
  rw [h, tile_scale]
  rfl

/-- A block of `dw`. -/
theorem dw_block (x : FVec Ideal S2048x256 .bf16) (dy : FVec Ideal S2048x2560 .bf16) (i : S256x2560.Idx) :
    k0_pay4 (F := Ideal) x dy i = dwAt (fun r => x (ix2 r (i 0))) (fun r => dy (ix2 r (i 1))) := by
  unfold dwAt
  pointwise [k0_pay4]

/-- A block of `dx`, from the kept levels `q`, the column of scales `s` and the weights' scale. -/
theorem dx_block (q : FVec Ideal S2048x2560 .bf16) (w : IVec S256x2560 8) (s : FVec Ideal S2048x1 .f32) (a : EReal) (i : S2048x256.Idx) :
    k0_pay5 (F := Ideal) q w s a i
      = (∑ j, q (ix2 (i 0) j) * (((w (ix2 (i 1) j)).toInt : ℝ) : EReal)) * s (ix2 (i 0) 0) * a := by
  pointwise [k0_pay5]
  rfl

end Cert.KernelIdeal.Hand

end
-- ==== Proof.Answer.lean ====
/- The four arrays the problem asks for, over the extended reals, as functions of the four arguments: `x`, the gradient
   `dy`, the weights' int8 codes and the weights' scale. Both programs are shown to leave exactly these. -/
module

public import proofs.«01_k».proof.Proof.Spec

@[expose] public section

noncomputable section

namespace Cert.Math

open Idealize.ShloMosaic

/-- Row `i` of the gradient. -/
def gradRow (dy : (⟨3, ![1, 2048, 2560]⟩ : Shape).Idx → EReal) (i : Fin 2048) : Fin 2560 → EReal := fun j => dy (ix3 0 i j)

/-- The gradient of the input: the requantised gradient times the weights' codes, rescaled. -/
def dxArr (dy : (⟨3, ![1, 2048, 2560]⟩ : Shape).Idx → EReal) (w : (⟨2, ![7168, 2560]⟩ : Shape).Idx → BitVec 8)
    (s : (⟨1, ![1]⟩ : Shape).Idx → EReal) : (⟨2, ![2048, 7168]⟩ : Shape).Idx → EReal := fun i =>
  dxAt (gradRow dy (i 0)) (fun j => w (ix2 (i 1) j)) (s (ix1 0))

/-- The gradient of the weights: `x` transposed times the gradient. -/
def dwArr (x : (⟨3, ![1, 2048, 7168]⟩ : Shape).Idx → EReal) (dy : (⟨3, ![1, 2048, 2560]⟩ : Shape).Idx → EReal) :
    (⟨2, ![7168, 2560]⟩ : Shape).Idx → EReal := fun i =>
  dwAt (fun r => x (ix3 0 r (i 0))) (fun r => gradRow dy r (i 1))

/-- The gradient's int8 codes. -/
def codeArr (dy : (⟨3, ![1, 2048, 2560]⟩ : Shape).Idx → EReal) : (⟨2, ![2048, 2560]⟩ : Shape).Idx → BitVec 8 := fun i =>
  code (gradRow dy (i 0)) (i 1)

/-- The gradient's row scales, as one row. -/
def scaleArr (dy : (⟨3, ![1, 2048, 2560]⟩ : Shape).Idx → EReal) : (⟨2, ![1, 2048]⟩ : Shape).Idx → EReal := fun i =>
  rowScale (gradRow dy (i 1))

end Cert.Math

end
-- ==== Proof.KernelValue.lean ====
/- What the kernel's four output arrays hold after the run, over the extended reals: each element as a function of the
   arguments, in the terms of `Spec`. -/
module

public import proofs.«01_k».proof.Proof.Run
public import proofs.«01_k».proof.Proof.Entry
public import proofs.«01_k».proof.Proof.TilePayloads
public import proofs.«01_k».proof.Proof.Answer
public import Idealize.ShloMosaic.Lib.Pointwise.IndexBridge

@[expose] public section

set_option maxRecDepth 16384

noncomputable section

namespace Cert.KernelIdeal.Hand

open Cert.KernelIdeal Cert.KernelIdeal.Gen Cert.Math
open Idealize.ShloMosaic Idealize.ShloMosaic.TcCoe
open Idealize.SL.Sem
open scoped BigOperators

/-! ## The stacked slabs, row by row -/

/-- Row `i` of the matrix `dy`. -/
def rowOf (dy : FVec Ideal S2048x2560 .bf16) (i : Fin 2048) : Fin 2560 → EReal := fun j => dy (ix2 i j)

/-- A row of a slab is the row of the matrix it was cut from. -/
theorem tileRow_rowsAt (dy : FVec Ideal S2048x2560 .bf16) (i : Fin 2048) (k : Fin 256) (hk : k.val = i.val % 256) :
    tileRow (rowsAt (F := Ideal) dy (i.val / 256 * 256)) k = rowOf dy i := by
  funext j
  unfold tileRow rowOf rowsAt
  have hi := i.isLt
  refine congrArg dy (Shape.idx_ext₂ ?_ rfl)
  show (i.val / 256 * 256 + k.val) % 2048 = i.val
  omega

/-- An element of the int8 codes. -/
theorem codes_apply (dy : FVec Ideal S2048x2560 .bf16) (i : S2048x2560.Idx) :
    codes (F := Ideal) dy i = code (rowOf dy (i 0)) (i 1) := by
  unfold codes stack
  exact (tile_code _ _).trans (congrArg (code · (i 1)) (tileRow_rowsAt dy (i 0) _ rfl))

/-- An element of the levels kept for the products. -/
theorem quants_apply (dy : FVec Ideal S2048x2560 .bf16) (i : S2048x2560.Idx) :
    quants (F := Ideal) dy i = level (rowOf dy (i 0)) (i 1) := by
  unfold quants stack
  exact (tile_quant _ _).trans (congrArg (level · (i 1)) (tileRow_rowsAt dy (i 0) _ rfl))

/-- An element of the scales kept for the products. -/
theorem scaleLanes_apply (dy : FVec Ideal S2048x2560 .bf16) (i : S2048x128.Idx) :
    scaleLanes (F := Ideal) dy i = rowScale (rowOf dy (i 0)) := by
  unfold scaleLanes stack
  exact (tile_lanes _ _).trans (congrArg rowScale (tileRow_rowsAt dy (i 0) _ rfl))

/-- An element of the row of scales. -/
theorem scaleRow_apply (dy : FVec Ideal S2048x2560 .bf16) (i : S1x2048.Idx) :
    scaleRow (F := Ideal) dy i = rowScale (rowOf dy (i 1)) := by
  unfold scaleRow beside
  exact (tile_scale_row _ _).trans (congrArg rowScale (tileRow_rowsAt dy (i 1) _ rfl))

/-- An element of a point's block of `dx`. -/
theorem dxBlock_apply (dy : FVec Ideal S2048x2560 .bf16) (ws : FVec Ideal S1 .f32) (w : IVec S256x2560 8) (i : S2048x256.Idx) :
    dxBlock (F := Ideal) ws (quants dy) (scaleLanes dy) w i
      = dxAt (rowOf dy (i 0)) (fun j => w (ix2 (i 1) j)) (ws (ix1 0)) := by
  have hs : View.ld (Val := Elt Ideal) (scaleLanes (F := Ideal) dy) (Rect.unit (s := S2048x128) ![0, 0] S2048x1.size inb_S2048x128_S2048x1_0_0)
      (ix2 (i 0) 0) = rowScale (rowOf dy (i 0)) := by
    refine (scaleLanes_apply dy _).trans (congrArg (fun k => rowScale (rowOf dy k)) (Fin.ext ?_))
    show 0 + 1 * (i 0).val = (i 0).val
    omega
  unfold dxBlock dxAt
  rw [dx_block, hs]
  refine congrArg₂ (fun p q => p * rowScale (rowOf dy (i 0)) * q) (Finset.sum_congr rfl fun j _ => ?_) ?_
  · rw [quants_apply]
    rfl
  · exact congrArg ws (ix1_eq_valueIdx _).symm

/-! ## The arguments, and the blocks in their terms -/

variable (m : (ℓ : Loc nD τ sig) → Buf (Elt Ideal) ℓ) (ρ : Dev nD → PrngReg)

/-- The argument `x`. -/
def argX (c : Dev nD) : S1x2048x7168.Idx → EReal := m ((c : Thread nD τ).loc main_arg0)
/-- The argument `dy`. -/
def argDy (c : Dev nD) : S1x2048x2560.Idx → EReal := m ((c : Thread nD τ).loc main_arg1)
/-- The argument that holds the weights' codes. -/
def argW (c : Dev nD) : S7168x2560.Idx → BitVec 8 := m ((c : Thread nD τ).loc main_arg2)
/-- The argument that holds the weights' scale. -/
def argS (c : Dev nD) : S1.Idx → EReal := m ((c : Thread nD τ).loc main_arg3)

/-- The rows of the gradient the kernel reads are the argument's. -/
theorem rowOf_block (c : Dev nD) (t : Fin cfg0.N) (i : Fin 2048) : rowOf (iblk m c 2 t) i = gradRow (argDy m c) i :=
  funext fun j => block_dy m c t (ix2 i j)

/-- An element of `dx` from equal rows and scales. -/
theorem dxAt_congr {d d' : Fin 2560 → EReal} {w w' : Fin 2560 → BitVec 8} {s s' : EReal} (hd : d = d') (hw : w = w') (hs : s = s') :
    dxAt d w s = dxAt d' w' s' := by
  rw [hd, hw, hs]

/-! ## The output arrays after the run -/

/-- `dx` after the run. -/
theorem final_dx (c : Dev nD) : (dats m 0 c).arrAt 4 cfg0.N = dxArr (argDy m c) (argW m c) (argS m c) := by
  refine (dats m 0 c).arrAt_eq_of_covers 4 _ (by decide +kernel) fun t hf y => ?_
  blk_simp
  rw [after0_4]
  refine (dxBlock_apply _ _ _ _).trans ?_
  have hy0 : (y 0).val < 2048 := (y 0).isLt
  have hy1 : (y 1).val < 256 := (y 1).isLt
  have ht : t.val < 28 := lt_of_lt_of_eq t.isLt N_0
  have e0 : (win0_4.blk t).view.emb y 0 = y 0 := Fin.ext (by blk_simp [index4])
  have e1 : ((win0_4.blk t).view.emb y 1).val = t.val * 256 + (y 1).val := by blk_simp [index4]
  have hw : (fun j => (iblk m c 3 t : S256x2560.Idx → BitVec 8) (ix2 (y 1) j)) = fun j => argW m c (ix2 ((win0_4.blk t).view.emb y 1) j) :=
    funext fun j => (block_w m c t (ix2 (y 1) j) (by show t.val * 256 + (y 1).val < 7168; omega)).trans
      (congrArg (argW m c) (congrArg (ix2 · j) (Fin.ext e1.symm)))
  have hd : rowOf (dyOf m c) (y 0) = gradRow (argDy m c) ((win0_4.blk t).view.emb y 0) :=
    (rowOf_block m c t₀ (y 0)).trans (congrArg (gradRow (argDy m c)) e0.symm)
  have hs : (iblk m c 0 t : S1.Idx → EReal) (ix1 0) = argS m c (ix1 0) := block_ws m c t (ix1 0)
  exact dxAt_congr hd hw hs

/-- `dw` after the run. -/
theorem final_dw (c : Dev nD) : (dats m 0 c).arrAt 5 cfg0.N = dwArr (argX m c) (argDy m c) := by
  refine (dats m 0 c).arrAt_eq_of_covers 5 _ (by decide +kernel) fun t hf y => ?_
  blk_simp
  rw [after0_5]
  refine (dw_block _ _ _).trans ?_
  have hy0 : (y 0).val < 256 := (y 0).isLt
  have hy1 : (y 1).val < 2560 := (y 1).isLt
  have ht : t.val < 28 := lt_of_lt_of_eq t.isLt N_0
  have e1 : (win0_5.blk t).view.emb y 1 = y 1 := Fin.ext (by blk_simp [index5])
  have e0 : ((win0_5.blk t).view.emb y 0).val = t.val * 256 + (y 0).val := by blk_simp [index5]
  unfold dwArr
  rw [e1]
  refine congr (congrArg dwAt (funext fun r => ?_)) (funext fun r => block_dy m c t (ix2 r (y 1)))
  refine (block_x m c t (ix2 r (y 0)) (by show t.val * 256 + (y 0).val < 7168; omega)).trans (congrArg (argX m c) (congrArg₂ (ix3 0) rfl (Fin.ext ?_)))
  exact e0.symm

/-- The last grid point. -/
def tLast : Fin cfg0.N := ⟨27, by decide⟩

/-- The int8 codes after the run. -/
theorem final_codes (c : Dev nD) : (dats m 0 c).arrAt 6 cfg0.N = codeArr (argDy m c) := by
  refine (dats m 0 c).arrAt_eq_of_after_last 6 tLast (by decide +kernel) _ fun j => ?_
  blk_simp
  rw [after0_6]
  exact (codes_apply _ j).trans (congrArg (code · (j 1)) (rowOf_block m c t₀ (j 0)))

/-- The row of scales after the run. -/
theorem final_scales (c : Dev nD) : (dats m 0 c).arrAt 7 cfg0.N = scaleArr (argDy m c) := by
  refine (dats m 0 c).arrAt_eq_of_after_last 7 tLast (by decide +kernel) _ fun j => ?_
  blk_simp
  rw [after0_7]
  exact (scaleRow_apply _ j).trans (congrArg rowScale (rowOf_block m c t₀ (j 1)))

/-- The kernel's run: its four outputs end at the problem's arrays, its arguments as launched. -/
theorem run_value : θ_run defs (onTc (τ := τ) (main (F := Ideal))) ⟨m, fun _ => 0, ρ⟩ fun r => ∀ c : Dev nD,
      r.2.mem ((c : Thread nD τ).loc main_v2_0) = dxArr (argDy m c) (argW m c) (argS m c)
      ∧ r.2.mem ((c : Thread nD τ).loc main_v2_1) = dwArr (argX m c) (argDy m c)
      ∧ r.2.mem ((c : Thread nD τ).loc main_v2_2) = codeArr (argDy m c)
      ∧ r.2.mem ((c : Thread nD τ).loc main_v2_3) = scaleArr (argDy m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1.out_eq c 4).trans (final_dx m c), (h.1.out_eq c 5).trans (final_dw m c),
      (h.1.out_eq c 6).trans (final_codes m c), (h.1.out_eq c 7).trans (final_scales m c), h.2 c⟩)
    (θ_run_and (run_main m ρ) (frame_of m ρ (dats m) (A_eq m) (run_main m ρ)))

end Cert.KernelIdeal.Hand

end
-- ==== Proof.RefPayloads.lean ====
/- What the reference computes, over the extended reals, element by element: its scales, codes and two products are
   those of `Spec`. -/
module

public import proofs.«01_k».proof.Proof.Spec
public import proofs.«01_k».proof.Proof.Gen.ReferenceIdeal.Skeleton

@[expose] public section

noncomputable section

namespace Cert.ReferenceIdeal.Hand

open Idealize.ShloMosaic Cert.Math Cert.ReferenceIdeal Cert.ReferenceIdeal.Gen

/-- Row `i` of the gradient as the argument holds it. -/
def row (dy : FVec Ideal S1x2048x2560 .bf16) (i : Fin 2048) : Fin 2560 → EReal := fun j => dy (ix3 0 i j)

/-- A vector as a column. -/
theorem vector_column (v : FVec Ideal S2048 .f32) (i : S2048x1.Idx) :
    shapeCast S2048x1 v shapeCasts_S2048_S2048x1 i = v (ix1 (i 0)) := by
  pointwise []

/-- The maximum along each row. -/
theorem row_maximum (v : FVec Ideal S2048x2560 .f32) (i : S2048.Idx) :
    multiReduction .maximumf [1] S2048 v 0xFF800000#32 reduces_S2048x2560_S2048 (.inl rfl) rfl i
      = Finset.univ.fold max (Ideal.ofBits .f32 0xFF800000#32) fun x => v (ix2 (i 0) x) := by
  pointwise []

/-- A column repeated along the rows of the gradient. -/
theorem column_broadcast (v : FVec Ideal S2048x1 .f32) (i : S2048x2560.Idx) :
    broadcastTo S2048x2560 v broadcasts_S2048x1_S2048x2560 i = v (ix2 (i 0) 0) := by
  pointwise []

/-- A column repeated along the rows of `dx`. -/
theorem column_broadcast_wide (v : FVec Ideal S2048x1 .f32) (i : S2048x7168.Idx) :
    broadcastTo S2048x7168 v broadcasts_S2048x1_S2048x7168 i = v (ix2 (i 0) 0) := by
  pointwise []

/-- The product that contracts the rows of both factors. -/
theorem product_rows (a : FVec Ideal S2048x2560 .bf16) (b : FVec Ideal S7168x2560 .bf16) (i : S2048x7168.Idx) :
    matmul dot_S2048x2560_S7168x2560_S2048x7168_1_1_0_0_n_n none a b (constant S2048x7168 .f32 0x00000000#32) i
      = ∑ x, a (ix2 (i 0) x) * b (ix2 (i 1) x) := by
  pointwise []

/-- The gradient widened to f32 is the gradient. -/
theorem gradient_apply (dy : FVec Ideal S1x2048x2560 .bf16) (i : S2048x2560.Idx) : k0_pay3 (F := Ideal) dy i = row dy (i 0) (i 1) := by
  unfold row
  pointwise [k0_pay3, k0_pay2]

/-- The reference's scale column. -/
theorem scale_apply (dy : FVec Ideal S1x2048x2560 .bf16) (i : S2048x1.Idx) : k0_pay4 (F := Ideal) dy i = rowScale (row dy (i 0)) := by
  have hm : shapeCast S2048x1 (multiReduction .maximumf [1] S2048 (absf (k0_pay3 (F := Ideal) dy)) 0xFF800000#32 reduces_S2048x2560_S2048 (.inl rfl) rfl) shapeCasts_S2048_S2048x1 i
      = rowMax (row dy (i 0)) := by
    rw [vector_column, row_maximum, ← fold_eq_rowMax]
    refine congrArg (fun f => Finset.univ.fold max _ f) (funext fun x => ?_)
    rw [magnitude_apply, gradient_apply]
    rfl
  unfold k0_pay4 rowScale
  rw [choose_apply, hm, const_127, const_one, const_zero]

/-- The reference's codes. -/
theorem code_apply (dy : FVec Ideal S1x2048x2560 .bf16) (i : S2048x2560.Idx) : k0_pay5 (F := Ideal) dy i = code (row dy (i 0)) (i 1) := by
  unfold k0_pay5 code level
  rw [byte_apply, clip_apply, gradient_apply, column_broadcast, scale_apply, const_127, const_neg_127]
  rfl

/-- The reference's `dx`. -/
theorem dx_apply (dy : FVec Ideal S1x2048x2560 .bf16) (w : IVec S7168x2560 8) (s : EReal) (i : S2048x7168.Idx) :
    k0_pay6 (F := Ideal) dy w s i = dxAt (row dy (i 0)) (fun j => w (ix2 (i 1) j)) s := by
  unfold k0_pay6 dxAt
  rw [rescale_apply, product_rows, column_broadcast_wide, scale_apply]
  refine congrArg (fun p => p * rowScale (row dy (i 0)) * s) (Finset.sum_congr rfl fun j _ => ?_)
  rw [number_apply, number_apply, code_apply]
  exact congrArg (fun l => l * (((w (ix2 (i 1) j)).toInt : ℝ) : EReal)) (code_toInt (row dy (i 0)) j)

/-- The reference's `dw`. -/
theorem dw_apply (x : FVec Ideal S1x2048x7168 .bf16) (dy : FVec Ideal S1x2048x2560 .bf16) (i : S7168x2560.Idx) :
    k0_pay7 (F := Ideal) x dy i = dwAt (fun r => x (ix3 0 r (i 0))) (fun r => row dy r (i 1)) := by
  unfold dwAt row
  pointwise [k0_pay7, k0_pay2]

/-- The reference's row of scales. -/
theorem scales_apply (dy : FVec Ideal S1x2048x2560 .bf16) (i : S1x2048.Idx) :
    k0_pay1 (k0_pay4 (F := Ideal) dy) i = rowScale (row dy (i 1)) := by
  have h : ∀ v : FVec Ideal S2048x1 .f32, k0_pay1 v i = v (ix2 (i 1) 0) := fun v => by pointwise [k0_pay1]
  rw [h, scale_apply]
  rfl

end Cert.ReferenceIdeal.Hand

end
-- ==== Proof.RefValue.lean ====
/- What the reference's four output arrays hold after its run, over the extended reals: the arrays of `Answer`. The
   reference computes them in one step, so an array is the one value that step stores. -/
module

public import proofs.«01_k».proof.Proof.Gen.ReferenceIdeal.Value
public import proofs.«01_k».proof.Proof.Answer
public import proofs.«01_k».proof.Proof.RefPayloads
public import proofs.«01_k».proof.Proof.Whole
public import Idealize.ShloMosaic.Lib.Pipeline.ValueKit.Geometry
public import Idealize.ShloMosaic.Lib.Pointwise.IndexBridge

@[expose] public section

set_option maxRecDepth 16384

noncomputable section

namespace Cert.ReferenceIdeal.Hand

open Cert.ReferenceIdeal Cert.ReferenceIdeal.Gen Cert.Math Cert.Whole
open Idealize.ShloMosaic Idealize.ShloMosaic.TcCoe
open Idealize.SL.Sem

section Stores

variable {F : FTy → Type} [FloatOps F]
variable (m : (ℓ : Loc nD τ sig) → Buf (Elt F) ℓ)

/-! ## What the one step stores, from the arrays it loads -/

variable (c : Dev nD) (arg0 : Memref sig .tc .vmem S1x2048x7168 .bf16) (harg0 : arg0.IsWhole) (arg1 : Memref sig .tc .vmem S1x2048x2560 .bf16) (harg1 : arg1.IsWhole)
  (arg2 : Memref sig .tc .vmem S7168x2560 .i8) (harg2 : arg2.IsWhole) (arg3 : Memref sig .tc .smem S1 .f32) (harg3 : arg3.IsWhole)
  (arg4 : Memref sig .tc .vmem S2048x7168 .bf16) (harg4 : arg4.IsWhole) (arg5 : Memref sig .tc .vmem S7168x2560 .f32) (harg5 : arg5.IsWhole)
  (arg6 : Memref sig .tc .vmem S2048x2560 .i8) (harg6 : arg6.IsWhole) (arg7 : Memref sig .tc .vmem S1x2048 .f32) (harg7 : arg7.IsWhole)
  (x0 : Vec F S1x2048x7168 .bf16) (x1 : Vec F S1x2048x2560 .bf16) (x2 : Vec F S7168x2560 .i8) (x3 : Vec F S1 .f32)

/-- The value stored in `dx`. -/
theorem stored_dx : out0_A_4 c arg0 harg0 arg1 harg1 arg2 harg2 arg3 harg3 arg4 harg4 arg5 harg5 arg6 harg6 arg7 harg7 x0 x1 x2 x3 = k0_pay6 x1 x2 (x3 (ValueIdx.ix1 0)) := by
  unfold out0_A_4 kernelRun0_A
  dsimp only
  rw [read_whole _ _ zero2]
  have ew : kernelRun0_A.sl.r c arg3 harg3 x3 = x3 (ValueIdx.ix1 0) := load_scalar harg3 x3 _ _
  rw [load_whole harg1 zero3, load_whole harg2 zero2, ew]

/-- The value stored in `dw`. -/
theorem stored_dw : out0_A_5 c arg0 harg0 arg1 harg1 arg2 harg2 arg3 harg3 arg4 harg4 arg5 harg5 arg6 harg6 arg7 harg7 x0 x1 x2 x3 = k0_pay7 x0 x1 := by
  unfold out0_A_5 kernelRun0_A
  dsimp only
  rw [read_whole _ _ zero2]
  rw [load_whole harg0 zero3, load_whole harg1 zero3]

/-- The codes stored. -/
theorem stored_codes : out0_A_6 c arg0 harg0 arg1 harg1 arg2 harg2 arg3 harg3 arg4 harg4 arg5 harg5 arg6 harg6 arg7 harg7 x0 x1 x2 x3 = k0_pay5 x1 := by
  unfold out0_A_6 kernelRun0_A
  dsimp only
  rw [read_whole _ _ zero2]
  exact congrArg k0_pay5 (load_whole harg1 zero3 _ x1)

/-- The row of scales stored. -/
theorem stored_scales : out0_A_7 c arg0 harg0 arg1 harg1 arg2 harg2 arg3 harg3 arg4 harg4 arg5 harg5 arg6 harg6 arg7 harg7 x0 x1 x2 x3 = k0_pay1 (k0_pay4 x1) := by
  unfold out0_A_7 kernelRun0_A
  dsimp only
  rw [read_whole _ _ zero2]
  exact congrArg (fun v => k0_pay1 (k0_pay4 v)) (load_whole harg1 zero3 _ x1)

end Stores

/-! ## The arrays it loads are the arguments -/

variable (m : (ℓ : Loc nD τ sig) → Buf (Elt Ideal) ℓ) (ρ : Dev nD → PrngReg)

/-- The argument `x`. -/
def argX (c : Dev nD) : S1x2048x7168.Idx → EReal := m ((c : Thread nD τ).loc main_arg0)
/-- The argument `dy`. -/
def argDy (c : Dev nD) : S1x2048x2560.Idx → EReal := m ((c : Thread nD τ).loc main_arg1)
/-- The argument that holds the weights' codes. -/
def argW (c : Dev nD) : S7168x2560.Idx → BitVec 8 := m ((c : Thread nD τ).loc main_arg2)
/-- The argument that holds the weights' scale. -/
def argS (c : Dev nD) : S1.Idx → EReal := m ((c : Thread nD τ).loc main_arg3)

/-- The one grid point. -/
def tOnly : Fin cfg0.N := ⟨0, by decide⟩

/-- The block of `x` starts at the origin. -/
theorem index0 : win0_0.index tOnly = ![0, 0, 0] := by decide +kernel
/-- The block of the gradient starts at the origin. -/
theorem index1 : win0_1.index tOnly = ![0, 0, 0] := by decide +kernel
/-- The block of the weights' codes starts at the origin. -/
theorem index2 : win0_2.index tOnly = ![0, 0] := by decide +kernel
/-- The block of the weights' scale starts at the origin. -/
theorem index3 : win0_3.index tOnly = ![0] := by decide +kernel

/-- The step loads the whole of `x`. -/
theorem block_x (c : Dev nD) : iblk m c 0 tOnly = argX m c := by
  funext y
  blk_simp [iblk]
  refine (congrFun (V_main_arg0 m c) _).trans (congrArg (argX m c) ?_)
  blk_ext [index0]

/-- The step loads the whole of `dy`. -/
theorem block_dy (c : Dev nD) : iblk m c 1 tOnly = argDy m c := by
  funext y
  blk_simp [iblk]
  refine (congrFun (V_main_arg1 m c) _).trans (congrArg (argDy m c) ?_)
  blk_ext [index1]

/-- The step loads all the weights' codes. -/
theorem block_w (c : Dev nD) : iblk m c 2 tOnly = argW m c := by
  funext y
  blk_simp [iblk]
  refine (congrFun (V_main_arg2 m c) _).trans (congrArg (argW m c) ?_)
  blk_ext [index2]

/-- The step loads the weights' scale. -/
theorem block_s (c : Dev nD) : iblk m c 3 tOnly = argS m c := by
  funext y
  blk_simp [iblk]
  refine (congrFun (V_main_arg3 m c) _).trans (congrArg (argS m c) ?_)
  blk_ext [index3]

/-- `dx` after the run. -/
theorem final_dx (c : Dev nD) : (dats m 0 c).arrAt 4 cfg0.N = dxArr (argDy m c) (argW m c) (argS m c) := by
  refine (dats m 0 c).arrAt_eq_of_after_last 4 tOnly (by decide +kernel) _ fun j => ?_
  blk_simp
  rw [after0_4]
  unfold outsAt0
  dsimp only
  rw [stored_dx, block_dy, block_w, block_s]
  exact (dx_apply _ _ _ j).trans (congrArg (dxAt _ _) (congrArg (argS m c) (ix1_eq_valueIdx _).symm))

/-- `dw` after the run. -/
theorem final_dw (c : Dev nD) : (dats m 0 c).arrAt 5 cfg0.N = dwArr (argX m c) (argDy m c) := by
  refine (dats m 0 c).arrAt_eq_of_after_last 5 tOnly (by decide +kernel) _ fun j => ?_
  blk_simp
  rw [after0_5]
  unfold outsAt0
  dsimp only
  rw [stored_dw, block_x, block_dy]
  exact dw_apply _ _ j

/-- The int8 codes after the run. -/
theorem final_codes (c : Dev nD) : (dats m 0 c).arrAt 6 cfg0.N = codeArr (argDy m c) := by
  refine (dats m 0 c).arrAt_eq_of_after_last 6 tOnly (by decide +kernel) _ fun j => ?_
  blk_simp
  rw [after0_6]
  unfold outsAt0
  dsimp only
  rw [stored_codes, block_dy]
  exact code_apply _ j

/-- The row of scales after the run. -/
theorem final_scales (c : Dev nD) : (dats m 0 c).arrAt 7 cfg0.N = scaleArr (argDy m c) := by
  refine (dats m 0 c).arrAt_eq_of_after_last 7 tOnly (by decide +kernel) _ fun j => ?_
  blk_simp
  rw [after0_7]
  unfold outsAt0
  dsimp only
  rw [stored_scales, block_dy]
  exact scales_apply _ j

/-- The reference's run: its four outputs end at the problem's arrays, its arguments as launched. -/
theorem run_value : θ_run defs (onTc (τ := τ) (main (F := Ideal))) ⟨m, fun _ => 0, ρ⟩ fun r => ∀ c : Dev nD,
      r.2.mem ((c : Thread nD τ).loc main_v0_0) = dxArr (argDy m c) (argW m c) (argS m c)
      ∧ r.2.mem ((c : Thread nD τ).loc main_v0_1) = dwArr (argX m c) (argDy m c)
      ∧ r.2.mem ((c : Thread nD τ).loc main_v0_2) = codeArr (argDy m c)
      ∧ r.2.mem ((c : Thread nD τ).loc main_v0_3) = scaleArr (argDy m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_dx m c), (h c).2.1.trans (final_dw m c),
      (h c).2.2.1.trans (final_codes m c), (h c).2.2.2.1.trans (final_scales m c), (h c).2.2.2.2⟩)
    (Value.run_blocks m ρ)

end Cert.ReferenceIdeal.Hand

end
-- ==== Proof.Equation.lean ====
/- The kernel's and the reference's outputs are the same arrays, over the extended reals, from any memories that hold the
   same arguments. -/
module

public import proofs.«01_k».proof.Defs
public import proofs.«01_k».proof.Proof.KernelValue
public import proofs.«01_k».proof.Proof.RefValue

@[expose] public section

noncomputable section

namespace Cert.Proof

open Idealize.ShloMosaic Idealize.SL.Sem Cert.Math

/-- The algebraic claim: both runs end at the arrays of `Answer`, taken at the arguments the two memories share. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, _, _, _, Cert.KernelIdeal.Hand.run_value m g, (θ_run _ _ _).mono (fun r h c => ?_) (Cert.ReferenceIdeal.Hand.run_value m' g')⟩
  obtain ⟨e0, e1, e2, e3⟩ := hm c
  have hx : Cert.ReferenceIdeal.Hand.argX m' c = Cert.KernelIdeal.Hand.argX m c := e0
  have hdy : Cert.ReferenceIdeal.Hand.argDy m' c = Cert.KernelIdeal.Hand.argDy m c := e1
  have hw : Cert.ReferenceIdeal.Hand.argW m' c = Cert.KernelIdeal.Hand.argW m c := e2
  have hs : Cert.ReferenceIdeal.Hand.argS m' c = Cert.KernelIdeal.Hand.argS m c := e3
  have := h c
  rw [hx, hdy, hw, hs] at this
  exact this

end Cert.Proof

end
-- ==== Proof.lean ====
/- The certificate: the frames of the three programs, and the equation of the kernel's and the reference's outputs over the
   extended reals, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.KernelFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: each of the three programs runs, ends quiescent and keeps its arguments; the kernel over the
    extended reals is the kernel's own program; its four outputs are the reference's. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, algebraic⟩

end Cert.Proof

end
